-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S_ : Shape := ⟨0, ![]⟩
abbrev S4096x32 : Shape := ⟨2, ![4096, 32]⟩
abbrev S32x1 : Shape := ⟨2, ![32, 1]⟩
abbrev S1x4096 : Shape := ⟨2, ![1, 4096]⟩
abbrev S32x4096 : Shape := ⟨2, ![32, 4096]⟩
abbrev S256x4096 : Shape := ⟨2, ![256, 4096]⟩
abbrev S1x1 : Shape := ⟨2, ![1, 1]⟩
abbrev S256x32 : Shape := ⟨2, ![256, 32]⟩
abbrev S256 : Shape := ⟨1, ![256]⟩
abbrev S256x1 : Shape := ⟨2, ![256, 1]⟩
abbrev S255x1 : Shape := ⟨2, ![255, 1]⟩
abbrev S2x1 : Shape := ⟨2, ![2, 1]⟩
abbrev S254x1 : Shape := ⟨2, ![254, 1]⟩
abbrev S4x1 : Shape := ⟨2, ![4, 1]⟩
abbrev S252x1 : Shape := ⟨2, ![252, 1]⟩
abbrev S8x1 : Shape := ⟨2, ![8, 1]⟩
abbrev S248x1 : Shape := ⟨2, ![248, 1]⟩
abbrev S16x1 : Shape := ⟨2, ![16, 1]⟩
abbrev S240x1 : Shape := ⟨2, ![240, 1]⟩
abbrev S224x1 : Shape := ⟨2, ![224, 1]⟩
abbrev S64x1 : Shape := ⟨2, ![64, 1]⟩
abbrev S192x1 : Shape := ⟨2, ![192, 1]⟩
abbrev S256x128 : Shape := ⟨2, ![256, 128]⟩

abbrev nBuf : Space → Nat
  | .hbm => 44
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S128, .i32⟩
  | .hbm, ⟨2, _⟩ => ⟨S128x1, .i32⟩
  | .hbm, ⟨3, _⟩ => ⟨S1x128, .i32⟩
  | .hbm, ⟨4, _⟩ => ⟨S128x128, .i32⟩
  | .hbm, ⟨5, _⟩ => ⟨S128x128, .i32⟩
  | .hbm, ⟨6, _⟩ => ⟨S128x128, .i1⟩
  | .hbm, ⟨7, _⟩ => ⟨S128x128, .bf16⟩
  | .hbm, ⟨8, _⟩ => ⟨S4096, .i32⟩
  | .hbm, ⟨9, _⟩ => ⟨S32, .i32⟩
  | .hbm, ⟨10, _⟩ => ⟨S4096x1, .i32⟩
  | .hbm, ⟨11, _⟩ => ⟨S1x32, .i32⟩
  | .hbm, ⟨12, _⟩ => ⟨S_, .i32⟩
  | .hbm, ⟨13, _⟩ => ⟨S1x32, .i32⟩
  | .hbm, ⟨14, _⟩ => ⟨S1x32, .i32⟩
  | .hbm, ⟨15, _⟩ => ⟨S4096x32, .i32⟩
  | .hbm, ⟨16, _⟩ => ⟨S4096x32, .i32⟩
  | .hbm, ⟨17, _⟩ => ⟨S4096x32, .i1⟩
  | .hbm, ⟨18, _⟩ => ⟨S4096x32, .bf16⟩
  | .hbm, ⟨19, _⟩ => ⟨S32x1, .i32⟩
  | .hbm, ⟨20, _⟩ => ⟨S1x4096, .i32⟩
  | .hbm, ⟨21, _⟩ => ⟨S_, .i32⟩
  | .hbm, ⟨22, _⟩ => ⟨S_, .i32⟩
  | .hbm, ⟨23, _⟩ => ⟨S1x4096, .i32⟩
  | .hbm, ⟨24, _⟩ => ⟨S1x4096, .i32⟩
  | .hbm, ⟨25, _⟩ => ⟨S1x4096, .i32⟩
  | .hbm, ⟨26, _⟩ => ⟨S_, .i32⟩
  | .hbm, ⟨27, _⟩ => ⟨S1x4096, .i32⟩
  | .hbm, ⟨28, _⟩ => ⟨S1x4096, .i1⟩
  | .hbm, ⟨29, _⟩ => ⟨S1x4096, .i32⟩
  | .hbm, ⟨30, _⟩ => ⟨S1x4096, .i32⟩
  | .hbm, ⟨31, _⟩ => ⟨S_, .i32⟩
  | .hbm, ⟨32, _⟩ => ⟨S1x4096, .i32⟩
  | .hbm, ⟨33, _⟩ => ⟨S1x4096, .i1⟩
  | .hbm, ⟨34, _⟩ => ⟨S1x4096, .i1⟩
  | .hbm, ⟨35, _⟩ => ⟨S_, .i32⟩
  | .hbm, ⟨36, _⟩ => ⟨S1x4096, .i32⟩
  | .hbm, ⟨37, _⟩ => ⟨S1x4096, .i32⟩
  | .hbm, ⟨38, _⟩ => ⟨S1x4096, .i32⟩
  | .hbm, ⟨39, _⟩ => ⟨S32x4096, .i32⟩
  | .hbm, ⟨40, _⟩ => ⟨S32x4096, .i32⟩
  | .hbm, ⟨41, _⟩ => ⟨S32x4096, .i1⟩
  | .hbm, ⟨42, _⟩ => ⟨S32x4096, .f32⟩
  | .hbm, ⟨43, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S128x128, .bf16⟩
  | .local _ .vmem, ⟨3, _⟩ => ⟨S4096x32, .bf16⟩
  | .local _ .vmem, ⟨4, _⟩ => ⟨S32x4096, .f32⟩
  | .local _ .vmem, ⟨5, _⟩ => ⟨S256x4096, .f32⟩
  | .local _ .vmem, ⟨6, _⟩ => ⟨S256x4096, .f32⟩
  | .local _ .vmem, ⟨7, _⟩ => ⟨S1x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_call0_v5 : Ref sig .tc := ⟨.hbm, 6, rfl⟩
abbrev main_call0_v6 : Ref sig .tc := ⟨.hbm, 7, rfl⟩
abbrev main_call0_v7 : Ref sig .tc := ⟨.hbm, 8, rfl⟩
abbrev main_call0_v8 : Ref sig .tc := ⟨.hbm, 9, rfl⟩
abbrev main_call0_v9 : Ref sig .tc := ⟨.hbm, 10, rfl⟩
abbrev main_call0_v10 : Ref sig .tc := ⟨.hbm, 11, rfl⟩
abbrev main_call0_c : Ref sig .tc := ⟨.hbm, 12, rfl⟩
abbrev main_call0_v11 : Ref sig .tc := ⟨.hbm, 13, rfl⟩
abbrev main_call0_v12 : Ref sig .tc := ⟨.hbm, 14, rfl⟩
abbrev main_call0_v13 : Ref sig .tc := ⟨.hbm, 15, rfl⟩
abbrev main_call0_v14 : Ref sig .tc := ⟨.hbm, 16, rfl⟩
abbrev main_call0_v15 : Ref sig .tc := ⟨.hbm, 17, rfl⟩
abbrev main_call0_v16 : Ref sig .tc := ⟨.hbm, 18, rfl⟩
abbrev main_call0_v17 : Ref sig .tc := ⟨.hbm, 19, rfl⟩
abbrev main_call0_v18 : Ref sig .tc := ⟨.hbm, 20, rfl⟩
abbrev main_call0_c_0 : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_c : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_call0_c_0 : Ref sig .tc := ⟨.hbm, 35, rfl⟩
abbrev main_call0_call0_v12 : Ref sig .tc := ⟨.hbm, 36, rfl⟩
abbrev main_call0_call0_v13 : Ref sig .tc := ⟨.hbm, 37, rfl⟩
abbrev main_call0_v19 : Ref sig .tc := ⟨.hbm, 38, rfl⟩
abbrev main_call0_v20 : Ref sig .tc := ⟨.hbm, 39, rfl⟩
abbrev main_call0_v21 : Ref sig .tc := ⟨.hbm, 40, rfl⟩
abbrev main_call0_v22 : Ref sig .tc := ⟨.hbm, 41, rfl⟩
abbrev main_call0_v23 : Ref sig .tc := ⟨.hbm, 42, rfl⟩
abbrev main_v0 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8192x4096 : Shape := ⟨2, ![8192, 4096]⟩
abbrev S33554432 : Shape := ⟨1, ![33554432]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S33554432, .f32⟩
  | .hbm, ⟨2, _⟩ => ⟨S_, .f32⟩
  | .hbm, ⟨3, _⟩ => ⟨S_, .f32⟩
  | .hbm, ⟨4, _⟩ => ⟨S33554432, .f32⟩
  | .hbm, ⟨5, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.KernelIdealRun.lean ====
/- The kernel's body, run once on any staging buffers: what it stores, as pieces of the output block and of the
   carried scratch. -/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1000000 in
/-- The body at any grid coordinates, on whole buffers holding the row block `x`, the three constant tables and the
    carried cell `s`: the pieces it stores in the output block and in the carried cell, with the proof that it runs and
    leaves them there, the inputs as they were. -/
noncomputable def bodyRun (c : Dev nD) (i : grid0.Coords) (arg1 : Memref sig .tc .vmem S256x4096 .f32) (harg1 : arg1.IsWhole)
    (arg2 : Memref sig .tc .vmem S128x128 .bf16) (harg2 : arg2.IsWhole) (arg3 : Memref sig .tc .vmem S4096x32 .bf16) (harg3 : arg3.IsWhole)
    (arg4 : Memref sig .tc .vmem S32x4096 .f32) (harg4 : arg4.IsWhole) (arg5 : Memref sig .tc .vmem S256x4096 .f32) (harg5 : arg5.IsWhole)
    (arg6 : Memref sig .tc .vmem S1x1 .f32) (harg6 : arg6.IsWhole)
    (x : Vec F S256x4096 .f32) (t : Vec F S128x128 .bf16) (e : Vec F S4096x32 .bf16) (p : Vec F S32x4096 .f32) (s : Vec F S1x1 .f32) :
    Σ' (L : List (View.Piece (Elt F) S256x4096 .f32)), { LS : List (View.Piece (Elt F) S1x1 .f32) //
      ∀ (E : Set ℕ) (K : PUnit → sProp 𝕄),
        iprop(owns (c : Thread nD τ) arg1 fullShare x ∗ owns (c : Thread nD τ) arg2 fullShare t ∗ owns (c : Thread nD τ) arg3 fullShare e
            ∗ owns (c : Thread nD τ) arg4 fullShare p ∗ (∃ d, owns (c : Thread nD τ) arg5 fullShare d) ∗ owns (c : Thread nD τ) arg6 fullShare s
            ∗ (iprop(owns (c : Thread nD τ) arg1 fullShare x ∗ owns (c : Thread nD τ) arg2 fullShare t ∗ owns (c : Thread nD τ) arg3 fullShare e
                ∗ owns (c : Thread nD τ) arg4 fullShare p
                ∗ (∃ f, arg5.view.loc (c : Thread nD τ) ↦[arg5.view.set]{fullShare} arg5.view.writes (Elt F) f L)
                ∗ (∃ f, arg6.view.loc (c : Thread nD τ) ↦[arg6.view.set]{fullShare} arg6.view.writes (Elt F) f LS)) -∗ K ⟨⟩))
          ⊢ wp frame (wpE (defs₀ (F := F)) Variants.none c none) E
              (cc0__scan_block i arg1 harg1 arg2 harg2 arg3 harg3 arg4 harg4 arg5 harg5 arg6 harg6) K } := by
  refine ⟨?_, ?_, fun E K => ?run⟩
  case run =>
    simp only [cc0__scan_block_eq_skeleton]; unfold cc0__scan_block_skel
    simp only [k0_part1_eq_skeleton, k0_part2_eq_skeleton, k0_part3_eq_skeleton, k0_part4_eq_skeleton, k0_part5_eq_skeleton,
      k0_part6_eq_skeleton, k0_part7_eq_skeleton]
    unfold owns
    iintro ⟨⟨%f1, %h1, H1⟩, ⟨%f2, %h2, H2⟩, ⟨%f3, %h3, H3⟩, ⟨%f4, %h4, H4⟩, ⟨%d5, %f5, -, H5⟩, ⟨%f6, %h6, H6⟩, Hk⟩
    obtain rfl := harg1.eq_unread h1; obtain rfl := harg2.eq_unread h2; obtain rfl := harg3.eq_unread h3
    obtain rfl := harg4.eq_unread h4; obtain rfl := harg6.eq_unread h6
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.KernelIdeal.Scan

end
-- ==== Proof.KernelIdealBlock.lean ====
/- What the kernel's body leaves in the output block and in the carried cell, as functions of the row block it is given,
   of the three constant tables and of the carry it enters with: at every float instance. -/
module

public import proofs.«01_k».proof.Proof.KernelIdealRun
public import Idealize.ShloMosaic.Lib.VecWindow
public import Idealize.ShloMosaic.Lib.ValueIdx

@[expose] public section

set_option maxRecDepth 16384

noncomputable section

namespace Cert.KernelIdeal.Scan

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The carry a point enters with: zero at the first point, else what the cell holds. -/
abbrev carryIn (i : grid0.Coords) (s : Vec F S1x1 .f32) : FVec F S1x1 .f32 := k0_pay9 (BitVec.ofNat 32 (i 0).val) 0#32 s

/-- The carry a point leaves: the one it entered with and the row block's total. -/
abbrev carryOut (x : Vec F S256x4096 .f32) (cr : FVec F S1x1 .f32) : FVec F S1x1 .f32 := k0_pay2 (k0_pay7 x) cr

/-- What stands before each row: the rows of the block before it, and the carry. -/
abbrev rowBase (x : Vec F S256x4096 .f32) (cr : FVec F S1x1 .f32) : FVec F S256x1 .f32 :=
  addf (k0_pay8 x) (broadcastTo S256x1 cr broadcasts_S1x1_S256x1)

/-- What stands before each entry's chunk in its own row. -/
abbrev chunkBase (x : Vec F S256x4096 .f32) (e : Vec F S4096x32 .bf16) (p : Vec F S32x4096 .f32) : FVec F S256x4096 .f32 :=
  k0_pay11 (k0_pay5 x e) p

/-- The chunk of 128 columns from column `o`: the running sums inside the chunk, over what stands before the chunk and
    before the row. -/
def chunkOut (o : ℕ) (h : S256x4096.Slices ![0, o] S256x128) (x : Vec F S256x4096 .f32) (t : Vec F S128x128 .bf16)
    (off : FVec F S256x4096 .f32) (base : FVec F S256x1 .f32) : FVec F S256x128 .f32 :=
  addf (matmul dot_S256x128_S128x128_S256x128_1_0_0_1_n_n none (extractStridedSlice S256x128 ![0, o] (k0_pay4 x) h) (k0_pay3 t)
      (constant S256x128 .f32 0x00000000#32))
    (addf (extractStridedSlice S256x128 ![0, o] off h) (broadcastTo S256x128 base broadcasts_S256x1_S256x128))

/-- The chunk that column `c` of a block lies in is a slice of the block. -/
theorem slices_chunk (c : ℕ) (hc : c < 4096) : S256x4096.Slices ![0, c / 128 * 128] S256x128 := by
  refine ⟨rfl, fun a => ?_⟩
  match a with
  | ⟨0, _⟩ => show 0 + 256 ≤ 256; omega
  | ⟨1, _⟩ => show c / 128 * 128 + 128 ≤ 4096; omega

/-- What the body leaves in the output block, entering with carry `cr`: each entry is its chunk's. -/
def blockOut (x : Vec F S256x4096 .f32) (t : Vec F S128x128 .bf16) (e : Vec F S4096x32 .bf16) (p : Vec F S32x4096 .f32)
    (cr : FVec F S1x1 .f32) : Vec F S256x4096 .f32 := fun y =>
  chunkOut ((y 1).val / 128 * 128) (slices_chunk _ (y 1).isLt) x t (chunkBase x e p) (rowBase x cr)
    (ix2 (y 0) ⟨(y 1).val % 128, Nat.mod_lt _ (by decide)⟩)

/-- A chunk's entries are the block's, in the chunk's place. -/
theorem chunkOut_eq_blockOut (o : ℕ) (ho : o % 128 = 0) (h : S256x4096.Slices ![0, o] S256x128)
    (inb : ∀ a, (![0, o] : Fin 2 → ℕ) a + S256x128.size a ≤ S256x4096.size a)
    (x : Vec F S256x4096 .f32) (t : Vec F S128x128 .bf16) (e : Vec F S4096x32 .bf16) (p : Vec F S32x4096 .f32)
    (cr : FVec F S1x1 .f32) (z : S256x128.Idx) :
    chunkOut o h x t (chunkBase x e p) (rowBase x cr) z
      = blockOut x t e p cr ((Rect.unit (s := S256x4096) ![0, o] S256x128.size inb).emb z) := by
  have hz0 : (z 0).val < 256 := (z 0).isLt
  have hz1 : (z 1).val < 128 := (z 1).isLt
  have e0 : ((Rect.unit (s := S256x4096) ![0, o] S256x128.size inb).emb z 0).val = (z 0).val := by
    show 0 + 1 * (z 0).val = _; omega
  have e1 : ((Rect.unit (s := S256x4096) ![0, o] S256x128.size inb).emb z 1).val = o + (z 1).val := by
    show o + 1 * (z 1).val = _; omega
  have hz : ix2 ((Rect.unit (s := S256x4096) ![0, o] S256x128.size inb).emb z 0)
      (⟨((Rect.unit (s := S256x4096) ![0, o] S256x128.size inb).emb z 1).val % 128, Nat.mod_lt _ (by decide)⟩ : Fin 128) = z := by
    funext a; apply Fin.ext
    match a with
    | ⟨0, _⟩ => exact e0
    | ⟨1, _⟩ => show ((Rect.unit (s := S256x4096) ![0, o] S256x128.size inb).emb z 1).val % 128 = (z 1).val; rw [e1]; omega
  have ho' : ((Rect.unit (s := S256x4096) ![0, o] S256x128.size inb).emb z 1).val / 128 * 128 = o := by rw [e1]; omega
  have key : ∀ (o' : ℕ) (h' : S256x4096.Slices ![0, o'] S256x128) (z' : S256x128.Idx), o' = o → z' = z →
      chunkOut o h x t (chunkBase x e p) (rowBase x cr) z = chunkOut o' h' x t (chunkBase x e p) (rowBase x cr) z' := by
    intro o' h' z' h1 h2; subst h1; subst h2; rfl
  exact key _ _ _ ho' hz

/-- Loading a whole buffer reads what it holds. -/
theorem load_whole {s : Shape} {e : EltTy} (m : Memref sig .tc .vmem s e) (hm : m.IsWhole) (X : Vec F s e) {off : Fin s.rank → ℕ}
    (inb : ∀ a, off a + s.size a ≤ s.size a) :
    m.view.readAt (Elt F) (Rect.unit off s.size inb).toLoadRect (hm.unread X) = X := by
  rw [View.readAt_full]; exact hm.read_unread X

section Pieces

variable (c : Dev nD) (i : grid0.Coords) (arg1 : Memref sig .tc .vmem S256x4096 .f32) (harg1 : arg1.IsWhole)
    (arg2 : Memref sig .tc .vmem S128x128 .bf16) (harg2 : arg2.IsWhole) (arg3 : Memref sig .tc .vmem S4096x32 .bf16) (harg3 : arg3.IsWhole)
    (arg4 : Memref sig .tc .vmem S32x4096 .f32) (harg4 : arg4.IsWhole) (arg5 : Memref sig .tc .vmem S256x4096 .f32) (harg5 : arg5.IsWhole)
    (arg6 : Memref sig .tc .vmem S1x1 .f32) (harg6 : arg6.IsWhole)
    (x : Vec F S256x4096 .f32) (t : Vec F S128x128 .bf16) (e : Vec F S4096x32 .bf16) (p : Vec F S32x4096 .f32) (s : Vec F S1x1 .f32)

/-- The stores into the output block cover it: 32 chunks of 128 columns. -/
theorem block_cover (y : S256x4096.Idx) :
    ∃ pc ∈ (bodyRun c i arg1 harg1 arg2 harg2 arg3 harg3 arg4 harg4 arg5 harg5 arg6 harg6 x t e p s).1, y ∈ pc.1.set :=
  View.cover_of_tiledL (bodyRun c i arg1 harg1 arg2 harg2 arg3 harg3 arg4 harg4 arg5 harg5 arg6 harg6 x t e p s).1 S256x128.size
    (by sl_kernel_rfl) y

/-- The store into the carried cell covers it. -/
theorem carry_cover (y : S1x1.Idx) :
    ∃ pc ∈ (bodyRun c i arg1 harg1 arg2 harg2 arg3 harg3 arg4 harg4 arg5 harg5 arg6 harg6 x t e p s).2.1, y ∈ pc.1.set :=
  View.cover_of_tiledL (bodyRun c i arg1 harg1 arg2 harg2 arg3 harg3 arg4 harg4 arg5 harg5 arg6 harg6 x t e p s).2.1 S1x1.size
    (by sl_kernel_rfl) y

set_option maxHeartbeats 2000000 in
/-- Every piece stored in the output block holds `blockOut`'s entries in its place. -/
theorem block_pieces : ∀ pc ∈ (bodyRun c i arg1 harg1 arg2 harg2 arg3 harg3 arg4 harg4 arg5 harg5 arg6 harg6 x t e p s).1,
    ∀ z : pc.1.shape.Idx, pc.2 z = blockOut x t e p (carryIn i s) (pc.1.emb z) := by
  have l1 := load_whole arg1 harg1 x inb_S256x4096_S256x4096_0_0
  have l2 := load_whole arg2 harg2 t inb_S128x128_S128x128_0_0
  have l3 := load_whole arg3 harg3 e inb_S4096x32_S4096x32_0_0
  have l4 := load_whole arg4 harg4 p inb_S32x4096_S32x4096_0_0
  have l6 := load_whole arg6 harg6 s inb_S1x1_S1x1_0_0
  have r0 : bodyRun.sl.r c arg2 harg2 t = k0_pay3 t := by unfold bodyRun.sl.r; rw [l2]
  have r1 : bodyRun.sl.r_1 c arg1 harg1 x = k0_pay4 x := by unfold bodyRun.sl.r_1; rw [l1]
  have r2 : bodyRun.sl.r_2 c arg1 harg1 arg3 harg3 x e = k0_pay5 x e := by unfold bodyRun.sl.r_2; rw [l1, l3]
  have r4 : bodyRun.sl.r_4 c arg1 harg1 x = k0_pay8 x := by unfold bodyRun.sl.r_4; rw [l1]
  have r6 : bodyRun.sl.r_6 c i arg1 harg1 arg6 harg6 x s = rowBase x (carryIn i s) := by
    unfold bodyRun.sl.r_6; rw [r4, l6]; rfl
  have r7 : bodyRun.sl.r_7 c arg1 harg1 arg3 harg3 arg4 harg4 x e p = chunkBase x e p := by
    unfold bodyRun.sl.r_7; rw [r2, l4]
  unfold bodyRun
  dsimp only
  simp only [bodyRun.sl.r_8, bodyRun.sl.r_9, bodyRun.sl.r_10, bodyRun.sl.r_11, bodyRun.sl.r_12, bodyRun.sl.r_13, bodyRun.sl.r_14,
    bodyRun.sl.r_15, bodyRun.sl.r_16, r0, r1, r2, r4, r6, r7, l4, l6]
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    intro z
    exact Eq.trans (by rfl) (chunkOut_eq_blockOut _ (by decide) _ _ x t e p (carryIn i s) z)

/-- The piece stored in the carried cell is the carry the point leaves. -/
theorem carry_pieces : ∀ pc ∈ (bodyRun c i arg1 harg1 arg2 harg2 arg3 harg3 arg4 harg4 arg5 harg5 arg6 harg6 x t e p s).2.1,
    ∀ z : pc.1.shape.Idx, pc.2 z = carryOut x (carryIn i s) (pc.1.emb z) := by
  have l1 := load_whole arg1 harg1 x inb_S256x4096_S256x4096_0_0
  have l6 := load_whole arg6 harg6 s inb_S1x1_S1x1_0_0
  have r3 : bodyRun.sl.r_3 c arg1 harg1 x = k0_pay7 x := by unfold bodyRun.sl.r_3; rw [l1]
  have r5 : bodyRun.sl.r_5 c i arg6 harg6 s = carryIn i s := by unfold bodyRun.sl.r_5; rw [l6]
  unfold bodyRun
  dsimp only
  simp only [r3, r5, List.forall_mem_cons, List.not_mem_nil, false_imp_iff, implies_true, and_true]
  intro z
  refine congrArg (carryOut x (carryIn i s)) (funext fun a => Fin.ext ?_)
  match a with
  | ⟨0, _⟩ => have h : (z 0).val < 1 := (z 0).isLt; show (z 0).val = 0 + 1 * (z 0).val; omega
  | ⟨1, _⟩ => have h : (z 1).val < 1 := (z 1).isLt; show (z 1).val = 0 + 1 * (z 1).val; omega

/-- THE BODY'S TRIPLE: on whole buffers holding the row block, the tables and the carried cell, the body runs and leaves
    `blockOut` in the output block and `carryOut` in the cell, the inputs as they were. -/
theorem body_triple (E : Set ℕ) (K : PUnit → sProp 𝕄) :
    iprop(owns (c : Thread nD τ) arg1 fullShare x ∗ owns (c : Thread nD τ) arg2 fullShare t ∗ owns (c : Thread nD τ) arg3 fullShare e
        ∗ owns (c : Thread nD τ) arg4 fullShare p ∗ (∃ d, owns (c : Thread nD τ) arg5 fullShare d) ∗ owns (c : Thread nD τ) arg6 fullShare s
        ∗ (iprop(owns (c : Thread nD τ) arg1 fullShare x ∗ owns (c : Thread nD τ) arg2 fullShare t ∗ owns (c : Thread nD τ) arg3 fullShare e
            ∗ owns (c : Thread nD τ) arg4 fullShare p ∗ owns (c : Thread nD τ) arg5 fullShare (blockOut x t e p (carryIn i s))
            ∗ owns (c : Thread nD τ) arg6 fullShare (carryOut x (carryIn i s))) -∗ K ⟨⟩))
      ⊢ wp frame (wpE (defs₀ (F := F)) Variants.none c none) E
          (cc0__scan_block i arg1 harg1 arg2 harg2 arg3 harg3 arg4 harg4 arg5 harg5 arg6 harg6) K := by
  iintro ⟨H1, H2, H3, H4, H5, H6, Hk⟩
  iapply ((bodyRun c i arg1 harg1 arg2 harg2 arg3 harg3 arg4 harg4 arg5 harg5 arg6 harg6 x t e p s).2.2 E K)
  isplitl [H1]; · iexact H1
  isplitl [H2]; · iexact H2
  isplitl [H3]; · iexact H3
  isplitl [H4]; · iexact H4
  isplitl [H5]; · iexact H5
  isplitl [H6]; · iexact H6
  iintro ⟨H1, H2, H3, H4, ⟨%f5, H5⟩, ⟨%f6, H6⟩⟩
  iapply Hk
  isplitl [H1]; · iexact H1
  isplitl [H2]; · iexact H2
  isplitl [H3]; · iexact H3
  isplitl [H4]; · iexact H4
  isplitl [H5]
  · unfold owns; iexists _; isplitr
    swap; · iexact H5
    ipureintro
    exact funext fun y => View.read_writes_apply_of_pieces _ _ _ _ (block_pieces c i arg1 harg1 arg2 harg2 arg3 harg3 arg4 harg4 arg5 harg5 arg6 harg6 x t e p s) y
      (block_cover c i arg1 harg1 arg2 harg2 arg3 harg3 arg4 harg4 arg5 harg5 arg6 harg6 x t e p s y)
  unfold owns; iexists _; isplitr
  swap; · iexact H6
  ipureintro
  exact funext fun y => View.read_writes_apply_of_pieces _ _ _ _ (carry_pieces c i arg1 harg1 arg2 harg2 arg3 harg3 arg4 harg4 arg5 harg5 arg6 harg6 x t e p s) y
    (carry_cover c i arg1 harg1 arg2 harg2 arg3 harg3 arg4 harg4 arg5 harg5 arg6 harg6 x t e p s y)

end Pieces

end Cert.KernelIdeal.Scan

end
-- ==== Proof.KernelIdealLaunch.lean ====
/- The launch: what the carried cell holds before each point, the region's proof data, the body's obligation at every
   point, and the run of the whole program, at every float instance. -/
module

public import proofs.«01_k».proof.Proof.KernelIdealBlock
public import Idealize.ShloMosaic.Lib.Pipeline.Value

@[expose] public section

set_option maxRecDepth 16384

noncomputable section

namespace Cert.KernelIdeal.Scan

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The carry before point `n`: zero, then what the points before it add. -/
def carryAt (c : Dev nD) : ℕ → FVec F S1x1 .f32
  | 0 => broadcast S1x1 (Scalar.ofBits .f32 0x00000000#32)
  | n + 1 => if h : n < cfg0.N then carryOut (iblk m c 0 ⟨n, h⟩) (carryAt c n) else carryAt c n

theorem carryAt_succ (c : Dev nD) (t : Fin cfg0.N) :
    carryAt m c (t.val + 1) = carryOut (iblk m c 0 t) (carryAt m c t.val) := dif_pos t.isLt

/-- The grid's one coordinate at a point is the point's number. -/
theorem coord_val (t : Fin cfg0.N) : (grid0.coords t 0).val = t.val := by
  have ht : t.val < 32 := Nat.lt_of_lt_of_eq t.isLt N_0
  have e : (grid0.coords t 0).val = t.val / 1 % 32 := Pipeline.Grid.coords_val t 0 (by decide) rfl
  rw [e]; omega

/-- The word of a point's number is zero at the first point only. -/
theorem coord_word (t : Fin cfg0.N) : BitVec.ofNat 32 (grid0.coords t 0).val = 0#32 ↔ t.val = 0 := by
  have ht : t.val < 32 := Nat.lt_of_lt_of_eq t.isLt N_0
  rw [coord_val]
  constructor
  · intro h
    have h' := congrArg BitVec.toNat h
    simp only [BitVec.toNat_ofNat] at h'
    omega
  · intro h; rw [h]

/-- At the first point the carry is zero, whatever the cell holds. -/
theorem carryIn_first (c : Dev nD) (t : Fin cfg0.N) (ht : t.val = 0) (s : Vec F S1x1 .f32) :
    carryIn (grid0.coords t) s = carryAt m c t.val := by
  unfold carryIn k0_pay9
  rw [(coord_word t).mpr ht, ht]
  rfl

/-- At a later point it is what the cell holds. -/
theorem carryIn_later (t : Fin cfg0.N) (ht : t.val ≠ 0) (s : Vec F S1x1 .f32) : carryIn (grid0.coords t) s = s := by
  have h : ¬ BitVec.ofNat 32 (grid0.coords t 0).val = 0#32 := fun h => ht ((coord_word t).mp h)
  have hc : Scalar.cmpi .eq (BitVec.ofNat 32 (grid0.coords t 0).val) 0#32 = 0#1 := by
    simp only [Scalar.cmpi, IntOp.cmpi, beq_eq_false_iff_ne.mpr h]; rfl
  unfold carryIn k0_pay9
  rw [hc]
  rfl

/-- The carried cell, whole. -/
abbrev cell : Memref sig .tc .vmem S1x1 .f32 := Memref.whole cc0_scratch0

/-- The region's own invariant at entry and exit, spelt with the cell. -/
theorem entry_eq (c : Dev nD) :
    (Pipeline.ΦA spec0 c : sProp 𝕄) = iprop((∃ d, owns (c : Thread nD τ) cell fullShare d) ∗ (∃ r, prngReg c r)) := by
  unfold Pipeline.ΦA; rw [scopedRest0_eq]; simp only [cell, owns_whole]; try rfl

/-- What is held before point `n` beside the windows: at the first point the cell at anything, later at `carryAt`. -/
def held (c : Dev nD) (n : ℕ) : sProp 𝕄 :=
  if n = 0 then Pipeline.ΦA spec0 c
  else iprop(owns (c : Thread nD τ) cell fullShare (carryAt m c n) ∗ (∃ r, prngReg c r))

theorem held_zero (c : Dev nD) : held m c 0 = (Pipeline.ΦA spec0 c : sProp 𝕄) := if_pos rfl

theorem held_pos (c : Dev nD) (n : ℕ) (hn : n ≠ 0) :
    held m c n = (iprop(owns (c : Thread nD τ) cell fullShare (carryAt m c n) ∗ (∃ r, prngReg c r)) : sProp 𝕄) := if_neg hn

/-- The proof data: the arrays as the region finds them; after point `t` each input buffer at its block and the output's at
    `blockOut`; the cell as `held` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockOut (iblk m c 0 t) (iblk m c 1 t) (iblk m c 2 t) (iblk m c 3 t) (carryAt m c t.val)
  Φ t := held m c t.val
  q _ := fullShare
  owed _ := 0

theorem arrays_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t
    = blockOut (iblk m c 0 t) (iblk m c 1 t) (iblk m c 2 t) (iblk m c 3 t) (carryAt m c t.val) := by dsimp only [dats]

/-- The body at a point, entering with its carry: the cell at anything that the point reads as `carryAt`. -/
theorem point_triple (c : Dev nD) (t : Fin cfg0.N) (s : Vec F S1x1 .f32) (hs : carryIn (grid0.coords t) s = carryAt m c t.val)
    (K : PUnit → sProp 𝕄) :
    iprop(owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ (∃ d, owns (c : Thread nD τ) (st0_4 t) fullShare d) ∗ owns (c : Thread nD τ) cell fullShare s
        ∗ (iprop(owns (c : Thread nD τ) (st0_0 t) fullShare (iblk m c 0 t) ∗ owns (c : Thread nD τ) (st0_1 t) fullShare (iblk m c 1 t)
            ∗ owns (c : Thread nD τ) (st0_2 t) fullShare (iblk m c 2 t) ∗ owns (c : Thread nD τ) (st0_3 t) fullShare (iblk m c 3 t)
            ∗ owns (c : Thread nD τ) (st0_4 t) fullShare
                (blockOut (iblk m c 0 t) (iblk m c 1 t) (iblk m c 2 t) (iblk m c 3 t) (carryAt m c t.val))
            ∗ owns (c : Thread nD τ) cell fullShare (carryAt m c (t.val + 1))) -∗ K ⟨⟩))
      ⊢ wp frame (wpE (defs₀ (F := F)) Variants.none c none) Set.univ (bodyAt0 t) K := by
  rw [carryAt_succ m c t, ← hs]
  exact body_triple c (grid0.coords t) _ _ _ _ _ _ _ _ _ _ _ _ (iblk m c 0 t) (iblk m c 1 t) (iblk m c 2 t) (iblk m c 3 t) s Set.univ K

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The cell as a point finds it: at contents the point reads as its carry, with the generator register. -/
theorem held_before (c : Dev nD) (t : Fin cfg0.N) :
    held m c t.val ⊢ iprop(∃ s, ⌜carryIn (grid0.coords t) s = carryAt m c t.val⌝ ∗ owns (c : Thread nD τ) cell fullShare s
      ∗ (∃ r, prngReg c r)) := by
  unfold held
  by_cases ht : t.val = 0
  · rw [if_pos ht, entry_eq]
    iintro ⟨⟨%s, Hs⟩, Hg⟩
    iexists s
    isplitr; · ipureintro; exact carryIn_first m c t ht s
    isplitl [Hs]; · iexact Hs
    iexact Hg
  · rw [if_neg ht]
    iintro ⟨Hs, Hg⟩
    iexists (carryAt m c t.val)
    isplitr; · ipureintro; exact carryIn_later t ht _
    isplitl [Hs]; · iexact Hs
    iexact Hg

/-- The body at any point takes what it is called with to what it gives back. -/
theorem body_sound (c : Dev nD) (t : Fin cfg0.N) :
    bodyPre m c t ⊢ wp frame (wpE (defs₀ (F := F)) Variants.none c none) Set.univ (bodyAt0 t) (fun _ => bodyPost m c t) := by
  unfold bodyPre bodyPost
  simp only [before0_0_of m (dats m 0 c) (arrays_eq m c 0) (after_0 m c), before0_1_of m (dats m 0 c) (arrays_eq m c 1) (after_1 m c),
    before0_2_of m (dats m 0 c) (arrays_eq m c 2) (after_2 m c), before0_3_of m (dats m 0 c) (arrays_eq m c 3) (after_3 m c)]
  rw [show (dats m 0 c).owesAt () t.succ = (dats m 0 c).owesAt () t.castSucc from rfl,
    after_0, after_1, after_2, after_3, after_4,
    show (dats m 0 c).Φ t.castSucc = held m c t.val from rfl,
    show (dats m 0 c).Φ t.succ = held m c (t.val + 1) from rfl, held_pos m c (t.val + 1) (Nat.succ_ne_zero t.val)]
  iintro ⟨Hh, Ho, ⟨%d0, H0⟩, ⟨%d1, H1⟩, ⟨%d2, H2⟩, ⟨%d3, H3⟩, ⟨%d4, H4⟩⟩
  ihave Hh' := (held_before m c t) $$ Hh
  icases Hh' with ⟨%s, %hs, Hs, Hg⟩
  iapply (point_triple m c t s hs)
  isplitl [H0]; · iexact H0
  isplitl [H1]; · iexact H1
  isplitl [H2]; · iexact H2
  isplitl [H3]; · iexact H3
  isplitl [H4]; · iexists _; iexact H4
  isplitl [Hs]; · iexact Hs
  iintro ⟨H0, H1, H2, H3, H4, Hs⟩
  isplitl [Hs Hg]
  · isplitl [Hs]; · iexact Hs
    iexact Hg
  isplitl [Ho]; · iexact Ho
  isplitl [H0]; · iexact H0
  isplitl [H1]; · iexact H1
  isplitl [H2]; · iexact H2
  isplitl [H3]; · iexact H3
  iexact H4

/-- The region's body table at point `t` is the body at `t`. -/
theorem body_row (t : Fin cfg0.N) : defs₀ (F := F) .tc cfg0.body (cfg0.bodyArgs t (cfg0.slots t)) = bodyAt0 t := by
  unfold defs₀; rw [Defs.onTc_tc]

/-- The obligation of the launch, at every point. -/
theorem body_obligation (c : Dev nD) : BodyObligation (dats (F := F) m 0 c) (defs₀ (F := F)) Variants.none () Set.univ := fun t => by
  rw [bigSep_W0, bigSep_W0, body_row]
  exact triple_restated (body_sound m c t) rfl .rfl fun _ => .rfl

/-- What the launch hands the region is held before the first point. -/
theorem held_first (c : Dev nD) : Pipeline.ΦA spec0 c ⊢ (dats m 0 c).Φ 0 := by
  rw [show (dats m 0 c).Φ 0 = held m c 0 from rfl, held_zero]

/-- What is held after the last point gives the launch back its own. -/
theorem held_last (c : Dev nD) : (dats m 0 c).Φ (Fin.last cfg0.N) ⊢ Pipeline.ΦA spec0 c := by
  rw [show (dats m 0 c).Φ (Fin.last cfg0.N) = held m c cfg0.N from rfl,
    held_pos m c cfg0.N (by have : cfg0.N = 32 := N_0; omega), entry_eq]
  iintro ⟨Hs, Hg⟩
  isplitl [Hs]
  · iexists _; iexact Hs
  iexact Hg

set_option backward.isDefEq.respectTransparency.types false in
/-- THE LAUNCH: every execution of the program ends, with the arrays at what the proof data says and every semaphore counter
    at zero. -/
theorem run_launch : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := arrays_eq m) (hin := held_first m) (hout := held_last m)

/-- The argument ends as it was: the region only reads it. -/
theorem arg_kept (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((arrays_eq m c 0).trans (V_main_arg0 m c)))

/-- THE FRAME: every execution ends with the argument as it was and every semaphore counter at zero. -/
theorem frame_run : θ_run defs (onTc (τ := τ) (main (F := F))) ⟨m, fun _ => 0, ρ⟩
    (fun r => (∀ c : Dev nD, r.2.mem ((c.tc : Thread nD τ).loc main_arg0) = m ((c.tc : Thread nD τ).loc main_arg0))
      ∧ r.2.sem = fun _ => 0) :=
  (θ_run defs _ _).mono (fun r h => ⟨fun c => arg_kept m r h.1 c, h.2⟩) (run_launch m ρ)

/-- Every execution ends with the result at the region's final array, the argument as it was. -/
theorem result_run : θ_run defs (onTc (τ := τ) (main (F := F))) ⟨m, fun _ => 0, ρ⟩
    (fun r => ∀ c : Dev nD, r.2.mem ((c.tc : Thread nD τ).loc main_v0) = (dats m 0 c).arrAt 4 cfg0.N
      ∧ r.2.mem ((c.tc : Thread nD τ).loc main_arg0) = m ((c.tc : Thread nD τ).loc main_arg0)) :=
  (θ_run defs _ _).mono (fun r h c => ⟨(h.1 c).1 4, arg_kept m r h.1 c⟩) (run_launch m ρ)

end Cert.KernelIdeal.Scan

end
-- ==== Proof.KernelIdealTables.lean ====
/- The three constant tables that the program builds before its launch, read entry by entry at exact numbers. -/
module

public import proofs.«01_k».proof.Proof.KernelIdealLaunch
public import Idealize.ShloMosaic.Lib.StableHlo.ReadAt
public import Idealize.ShloMosaic.Lib.Tactic.WordOmega
public import Idealize.ShloMosaic.Lib.IdealHost

@[expose] public section

set_option maxRecDepth 16384

noncomputable section

namespace Cert.KernelIdeal.Scan

open Cert.KernelIdeal Cert.KernelIdeal.Gen
open Idealize.ShloMosaic Idealize.ShloMosaic.ValueIdx Idealize.ShloMosaic.TcCoe

variable (m : (ℓ : Loc nD τ sig) → Buf (Elt Ideal) ℓ)

/-- The number that the word of a condition becomes: one where it holds, else zero. -/
theorem number_of_bit {φ : FTy} {w : BitVec 1} {P : Prop} [Decidable P] (h : w = 1#1 ↔ P) :
    (FloatOps.uitofp φ w : Ideal φ) = (if P then (1 : EReal) else 0) := by
  rw [show (FloatOps.uitofp φ w : Ideal φ) = ((w.toNat : ℝ) : EReal) from rfl]
  by_cases hP : P
  · rw [if_pos hP, h.mpr hP]; simp
  · rw [if_neg hP, eq_zero_of_ne_one fun e => hP (h.mp e)]; simp

/-- The word of a column's number divided by 128, as the program finds it: the quotient, less one where the signs differ and a
    remainder is left. -/
def chunkWord (w : BitVec 32) : BitVec 32 :=
  Scalar.select (IntOp.andi
      (IntOp.cmpi .ne (if w = 0 then (0 : BitVec 32) else if w.msb = true then -1 else 1)
        (if (128#32 : BitVec 32) = 0 then 0 else if (128#32 : BitVec 32).msb = true then -1 else 1))
      (IntOp.cmpi .ne (IntOp.remsi .host w 128#32) 0#32))
    (IntOp.subi (IntOp.divsi .host w 128#32) 1#32) (IntOp.divsi .host w 128#32)

/-- At a column it is the chunk's number. -/
theorem chunkWord_eq : ∀ c : Fin 4096, chunkWord (BitVec.ofNat 32 c.val) = BitVec.ofNat 32 (c.val / 128) := by decide +kernel

/-- The first table: one where the row is not past the column. -/
theorem upTo_table (c : Dev nD) (y : S128x128.Idx) :
    (V m c main_call0_v6 : Vec Ideal S128x128 .bf16) y = (if (y 0).val ≤ (y 1).val then (1 : EReal) else 0) := by
  have h0 : (y 0).val < 128 := (y 0).isLt
  have h1 : (y 1).val < 128 := (y 1).isLt
  unfold V
  after_reads_at
  refine number_of_bit ?_
  word_cmp

/-- The second: one where the column lies before the chunk. -/
theorem before_table (c : Dev nD) (y : S4096x32.Idx) :
    (V m c main_call0_v16 : Vec Ideal S4096x32 .bf16) y = (if (y 0).val < (y 1).val * 128 then (1 : EReal) else 0) := by
  have h0 : (y 0).val < 4096 := (y 0).isLt
  have h1 : (y 1).val < 32 := (y 1).isLt
  unfold V
  after_reads_at
  refine number_of_bit ?_
  have hm : IntOp.muli (BitVec.ofNat 32 (y 1).val) 128#32 = BitVec.ofNat 32 ((y 1).val * 128) := by
    apply BitVec.eq_of_toNat_eq
    simp [IntOp.muli]
  rw [hm]
  word_cmp

/-- The third: one where the chunk holds the column. -/
theorem holds_table (c : Dev nD) (y : S32x4096.Idx) :
    (V m c main_call0_v23 : Vec Ideal S32x4096 .f32) y = (if (y 0).val = (y 1).val / 128 then (1 : EReal) else 0) := by
  have h0 : (y 0).val < 32 := (y 0).isLt
  have h1 : (y 1).val < 4096 := (y 1).isLt
  unfold V
  after_reads_at
  refine number_of_bit ?_
  show IntOp.cmpi .eq (BitVec.ofNat 32 (y 0).val) (chunkWord (BitVec.ofNat 32 (y 1).val)) = 1#1 ↔ _
  rw [chunkWord_eq ⟨(y 1).val, h1⟩]
  word_cmp

end Cert.KernelIdeal.Scan

end
-- ==== Proof.Sums.lean ====
/- Sums of extended reals over initial segments: what the kernel's and the reference's proofs both count in. -/
module

public import Mathlib.Data.EReal.Operations
public import Mathlib.Algebra.BigOperators.Fin
public import Mathlib.Algebra.BigOperators.Intervals

@[expose] public section

namespace Cert.Sums

open Finset
open scoped BigOperators

/-- A sum against the indicator of the first `j` places is the sum over those places. -/
theorem sum_below {N j : ℕ} (hj : j ≤ N) (g : ℕ → EReal) :
    ∑ k : Fin N, g k.val * (if k.val < j then (1 : EReal) else 0) = ∑ k ∈ range j, g k := by
  rw [Fin.sum_univ_eq_sum_range (fun k => g k * (if k < j then (1 : EReal) else 0)) N,
    ← sum_subset (range_subset_range.2 hj) fun k _ hk => by rw [if_neg (by simpa using hk), mul_zero]]
  exact sum_congr rfl fun k hk => by rw [if_pos (mem_range.1 hk), mul_one]

/-- A sum against the indicator of one place is the term there. -/
theorem sum_pick {N : ℕ} (f : Fin N → EReal) (j : Fin N) :
    ∑ k : Fin N, f k * (if k.val = j.val then (1 : EReal) else 0) = f j := by
  rw [sum_eq_single j (fun k _ hk => by rw [if_neg fun e => hk (Fin.ext e), mul_zero]) fun h => absurd (mem_univ j) h, if_pos rfl, mul_one]

/-- A finite sum of real numbers is a real number. -/
theorem sum_real (g : ℕ → EReal) (n : ℕ) (h : ∀ k < n, ∃ r : ℝ, g k = (r : EReal)) : ∃ r : ℝ, ∑ k ∈ range n, g k = (r : EReal) := by
  induction n with
  | zero => exact ⟨0, by simp⟩
  | succ n ih =>
    obtain ⟨a, ha⟩ := ih fun k hk => h k (Nat.lt_succ_of_lt hk)
    obtain ⟨b, hb⟩ := h n (Nat.lt_succ_self n)
    exact ⟨a + b, by rw [sum_range_succ, ha, hb, EReal.coe_add]⟩

/-- Taking the last term back out of a sum leaves the others, where the term is real. -/
theorem sum_sub_last (g : ℕ → EReal) (n : ℕ) (h : ∃ r : ℝ, g n = (r : EReal)) :
    ∑ k ∈ range (n + 1), g k - g n = ∑ k ∈ range n, g k := by
  obtain ⟨r, hr⟩ := h
  rw [sum_range_succ, hr, EReal.add_sub_cancel_right]

/-- The sum of the last `d` terms up to place `n`, fewer where `n` has fewer before it. -/
noncomputable def back (g : ℕ → EReal) (d n : ℕ) : EReal := ∑ i ∈ range (min (n + 1) d), g (n - i)

theorem back_one (g : ℕ → EReal) (n : ℕ) : back g 1 n = g n := by
  unfold back
  rw [show min (n + 1) 1 = 1 by omega]
  simp

/-- Doubling, where fewer than `d` terms stand before. -/
theorem back_double_low (g : ℕ → EReal) (d n : ℕ) (h : n < d) : back g (2 * d) n = back g d n := by
  unfold back
  rw [show min (n + 1) (2 * d) = n + 1 by omega, show min (n + 1) d = n + 1 by omega]

/-- Doubling, where at least `d` terms stand before: the last `d` and the `d` before them. -/
theorem back_double_high (g : ℕ → EReal) (d n : ℕ) (h : d ≤ n) : back g (2 * d) n = back g d n + back g d (n - d) := by
  unfold back
  rw [show min (n + 1) (2 * d) = min (n + 1) d + min (n - d + 1) d by omega, sum_range_add]
  refine congrArg _ (sum_congr rfl fun i hi => congrArg g ?_)
  rw [show min (n + 1) d = d by omega]
  omega

/-- With room for all of them, it is the sum from the start. -/
theorem back_full (g : ℕ → EReal) (d n : ℕ) (h : n < d) : back g d n = ∑ k ∈ range (n + 1), g k := by
  unfold back
  rw [show min (n + 1) d = n + 1 by omega, ← sum_range_reflect g (n + 1)]
  exact sum_congr rfl fun i hi => congrArg g (by omega)

/-- The first `W · R` terms, row by row. -/
theorem sum_rows (g : ℕ → EReal) (W R : ℕ) : ∑ k ∈ range (W * R), g k = ∑ r ∈ range R, ∑ c ∈ range W, g (W * r + c) := by
  induction R with
  | zero => simp
  | succ R ih => rw [Nat.mul_succ, sum_range_add, ih, sum_range_succ]

end Cert.Sums
-- ==== Proof.KernelIdealBlockValue.lean ====
/- What one block's body leaves, at exact numbers: each entry is the carry, the rows of the block before its own, and its own
   row up to it. -/
module

public import proofs.«01_k».proof.Proof.KernelIdealBlock
public import proofs.«01_k».proof.Proof.Sums
public import Idealize.ShloMosaic.Lib.Pipeline.Value
public import Idealize.ShloMosaic.Lib.MatmulPlain
public import Idealize.ShloMosaic.Lib.IdealHost

@[expose] public section

set_option maxRecDepth 16384

noncomputable section

namespace Cert.KernelIdeal.Scan

open Cert.KernelIdeal Cert.KernelIdeal.Gen Cert.Sums
open Idealize.ShloMosaic Idealize.ShloMosaic.TcCoe
open Idealize.ShloMosaic.ValueIdx (ix1 ix2 eq_ix2 addf_apply subf_apply)
open Finset

/-- The total of row `r`. -/
def rowTotal (X : ℕ → ℕ → EReal) (r : ℕ) : EReal := ∑ c ∈ range 4096, X r c

/-! ## The rows' totals and their running sums -/

/-- The lane sum of a row is the row's total. -/
theorem total_value (x : Vec Ideal S256x4096 .f32) (X : ℕ → ℕ → EReal) (hx : ∀ y, x y = X (y 0).val (y 1).val) (y : S256x1.Idx) :
    k0_pay6 (F := Ideal) x y = rowTotal X (y 0).val := by
  have h0 : (y 0).val < 256 := (y 0).isLt
  have h1 : (y 1).val < 1 := (y 1).isLt
  unfold k0_pay6 rowTotal
  rw [shapeCast_apply _ _ _ (ix1 (⟨(y 0).val, h0⟩ : Fin 256)) (by rw [Shape.rowMajor_val_one, Shape.rowMajor_val_two]; simp; omega)]
  refine (Ideal.multiReduction_add_single _ _ _ _ _ _).trans ?_
  rw [← Fin.sum_univ_eq_sum_range (fun c => X (y 0).val c)]
  refine sum_congr rfl fun k _ => ?_
  exact hx _

/-- One step of the scan: each place gains what stands `d` places before it, or zero. -/
theorem scan_step (d n : ℕ) (hd : d + n = 256) (v : FVec Ideal S256x1 .f32) (T : ℕ → EReal)
    (hs : S256x1.Slices ![0, 0] (⟨2, ![n, 1]⟩ : Shape)) (hc : Shape.Concatenates [(⟨2, ![d, 1]⟩ : Shape), ⟨2, ![n, 1]⟩] S256x1 0)
    (hv : ∀ y, v y = back T d (y 0).val) (y : S256x1.Idx) :
    addf v (concatenate S256x1 0 [⟨(⟨2, ![d, 1]⟩ : Shape), broadcast (⟨2, ![d, 1]⟩ : Shape) (Scalar.ofBits (F := Ideal) .f32 0x00000000#32)⟩,
        ⟨(⟨2, ![n, 1]⟩ : Shape), extractStridedSlice (⟨2, ![n, 1]⟩ : Shape) ![0, 0] v hs⟩] hc) y
      = back T (2 * d) (y 0).val := by
  have h0 : (y 0).val < 256 := (y 0).isLt
  have h1 : (y 1).val < 1 := (y 1).isLt
  rw [addf_apply, hv]
  by_cases hy : (y 0).val < d
  · rw [back_double_low T d _ hy, concatenate_pair_apply_left 0 _ _ hc y rfl (ix2 (⟨(y 0).val, hy⟩ : Fin d) (⟨(y 1).val, h1⟩ : Fin 1))
      (fun b => by match b with | ⟨0, _⟩ => rfl | ⟨1, _⟩ => rfl)]
    show _ + Ideal.ofBits .f32 0x00000000#32 = _
    rw [Ideal.ofBits_zero_f32, add_zero]
  · rw [back_double_high T d _ (by omega), concatenate_pair_apply_right 0 _ _ hc y rfl rfl (ix2 (⟨(y 0).val - d, by omega⟩ : Fin n) (⟨(y 1).val, h1⟩ : Fin 1))
      (fun b hb => by match b with | ⟨0, _⟩ => exact absurd rfl hb | ⟨1, _⟩ => rfl) (by show (y 0).val - d + d = _; omega),
      extractStridedSlice_apply _ _ _ _ (ix2 (⟨(y 0).val - d, by omega⟩ : Fin 256) (⟨(y 1).val, h1⟩ : Fin 1))
      (fun a => by match a with | ⟨0, _⟩ => show (y 0).val - d = 0 + ((y 0).val - d); omega | ⟨1, _⟩ => show (y 1).val = 0 + (y 1).val; omega), hv]

/-- The scan's eight steps leave the running sums of the rows' totals. -/
theorem running_value (x : Vec Ideal S256x4096 .f32) (X : ℕ → ℕ → EReal) (hx : ∀ y, x y = X (y 0).val (y 1).val) (y : S256x1.Idx) :
    k0_pay7 (F := Ideal) x y = ∑ r ∈ range ((y 0).val + 1), rowTotal X r := by
  have h0 : (y 0).val < 256 := (y 0).isLt
  rw [← back_full (rowTotal X) 256 _ h0]
  have s0 : ∀ y, k0_pay6 (F := Ideal) x y = back (rowTotal X) 1 (y 0).val := fun y => by rw [back_one]; exact total_value x X hx y
  have s1 := scan_step 1 255 rfl _ _ slices_S256x1_o0_0_S255x1 concatenates_S1x1_S255x1_S256x1_d0 s0
  have s2 := scan_step 2 254 rfl _ _ slices_S256x1_o0_0_S254x1 concatenates_S2x1_S254x1_S256x1_d0 s1
  have s3 := scan_step 4 252 rfl _ _ slices_S256x1_o0_0_S252x1 concatenates_S4x1_S252x1_S256x1_d0 s2
  have s4 := scan_step 8 248 rfl _ _ slices_S256x1_o0_0_S248x1 concatenates_S8x1_S248x1_S256x1_d0 s3
  have s5 := scan_step 16 240 rfl _ _ slices_S256x1_o0_0_S240x1 concatenates_S16x1_S240x1_S256x1_d0 s4
  have s6 := scan_step 32 224 rfl _ _ slices_S256x1_o0_0_S224x1 concatenates_S32x1_S224x1_S256x1_d0 s5
  have s7 := scan_step 64 192 rfl _ _ slices_S256x1_o0_0_S192x1 concatenates_S64x1_S192x1_S256x1_d0 s6
  exact scan_step 128 128 rfl _ _ slices_S256x1_o0_0_S128x1 concatenates_S128x1_S128x1_S256x1_d0 s7 y

/-- What the rows before a row come to, where every row's total is real. -/
theorem rows_before_value (x : Vec Ideal S256x4096 .f32) (X : ℕ → ℕ → EReal) (hx : ∀ y, x y = X (y 0).val (y 1).val)
    (hr : ∀ r < 256, ∃ a : ℝ, rowTotal X r = (a : EReal)) (y : S256x1.Idx) :
    k0_pay8 (F := Ideal) x y = ∑ r ∈ range (y 0).val, rowTotal X r := by
  unfold k0_pay8
  rw [subf_apply, running_value x X hx, total_value x X hx]
  exact sum_sub_last _ _ (hr _ (y 0).isLt)

/-! ## The three products -/

/-- The sum of the columns before a chunk. -/
theorem chunk_before_value (x : Vec Ideal S256x4096 .f32) (X : ℕ → ℕ → EReal) (hx : ∀ y, x y = X (y 0).val (y 1).val)
    (e : Vec Ideal S4096x32 .bf16) (he : ∀ y, e y = (if (y 0).val < (y 1).val * 128 then (1 : EReal) else 0)) (r : Fin 256) (k : Fin 32) :
    k0_pay5 (F := Ideal) x e (ix2 r k) = ∑ c ∈ range (k.val * 128), X r.val c := by
  unfold k0_pay5 k0_pay4
  rw [shapeCast_self]
  show FloatOps.matmul (DotDims.plain 256 4096 32) none _ _ _ (ix2 r k) = _
  rw [Ideal.matmul_plain_apply, ← sum_below (N := 4096) (j := k.val * 128) (by omega)]
  show Ideal.ofBits .f32 0x00000000#32 + _ = _
  rw [Ideal.ofBits_zero_f32, zero_add]
  refine sum_congr rfl fun c _ => ?_
  exact congrArg₂ (· * ·) (hx _) (he _)

/-- Spread over the columns: each column has the sum of the columns before its chunk. -/
theorem chunk_base_value (x : Vec Ideal S256x4096 .f32) (X : ℕ → ℕ → EReal) (hx : ∀ y, x y = X (y 0).val (y 1).val)
    (e : Vec Ideal S4096x32 .bf16) (he : ∀ y, e y = (if (y 0).val < (y 1).val * 128 then (1 : EReal) else 0))
    (p : Vec Ideal S32x4096 .f32) (hp : ∀ y, p y = (if (y 0).val = (y 1).val / 128 then (1 : EReal) else 0)) (r : Fin 256) (c : Fin 4096) :
    chunkBase (F := Ideal) x e p (ix2 r c) = ∑ k ∈ range (c.val / 128 * 128), X r.val k := by
  unfold chunkBase k0_pay11
  rw [shapeCast_self]
  show FloatOps.matmul (DotDims.plain 256 32 4096) none _ _ _ (ix2 r c) = _
  rw [Ideal.matmul_plain_apply]
  show Ideal.ofBits .f32 0x00000000#32 + _ = _
  rw [Ideal.ofBits_zero_f32, zero_add]
  have hc : c.val / 128 < 32 := by omega
  rw [← chunk_before_value x X hx e he r ⟨c.val / 128, hc⟩, ← sum_pick (fun k : Fin 32 => k0_pay5 (F := Ideal) x e (ix2 r k)) ⟨c.val / 128, hc⟩]
  refine sum_congr rfl fun k _ => ?_
  exact congrArg _ (hp _)

/-- Inside a chunk: the sum of the chunk's columns up to one of them. -/
theorem chunk_inner_value (x : Vec Ideal S256x4096 .f32) (X : ℕ → ℕ → EReal) (hx : ∀ y, x y = X (y 0).val (y 1).val)
    (t : Vec Ideal S128x128 .bf16) (ht : ∀ y, t y = (if (y 0).val ≤ (y 1).val then (1 : EReal) else 0))
    (o : ℕ) (h : S256x4096.Slices ![0, o] S256x128) (r : Fin 256) (j : Fin 128) :
    matmul (F := Ideal) dot_S256x128_S128x128_S256x128_1_0_0_1_n_n none (extractStridedSlice S256x128 ![0, o] (k0_pay4 (F := Ideal) x) h)
        (k0_pay3 (F := Ideal) t) (constant S256x128 .f32 0x00000000#32) (ix2 r j)
      = ∑ k ∈ range (j.val + 1), X r.val (o + k) := by
  have ho : o + 128 ≤ 4096 := h.2 1
  unfold k0_pay3 k0_pay4
  rw [shapeCast_self]
  show FloatOps.matmul (DotDims.plain 256 128 128) none _ _ _ (ix2 r j) = _
  rw [Ideal.matmul_plain_apply, ← sum_below (N := 128) (j := j.val + 1) (by omega) (fun k => X r.val (o + k))]
  show Ideal.ofBits .f32 0x00000000#32 + _ = _
  rw [Ideal.ofBits_zero_f32, zero_add]
  refine sum_congr rfl fun k _ => congrArg₂ (· * ·) ?_ ?_
  · rw [extractStridedSlice_apply _ _ h _ (ix2 r (⟨o + k.val, by omega⟩ : Fin 4096))
      (fun a => by match a with | ⟨0, _⟩ => show r.val = 0 + r.val; omega | ⟨1, _⟩ => rfl)]
    exact hx _
  · rw [ht]
    exact if_congr Nat.lt_succ_iff.symm rfl rfl

/-! ## The block -/

/-- The carry spread over the rows. -/
theorem carry_rows (cr : FVec Ideal S1x1 .f32) (y : S256x1.Idx) : broadcastTo S256x1 cr broadcasts_S1x1_S256x1 y = cr (ix2 0 0) :=
  broadcastTo_apply _ _ _ _ fun a => by match a with | ⟨0, _⟩ => rfl | ⟨1, _⟩ => rfl

/-- An entry of the block: the carry, the rows before its own, its own row up to it. -/
theorem block_value (x : Vec Ideal S256x4096 .f32) (X : ℕ → ℕ → EReal) (hx : ∀ y, x y = X (y 0).val (y 1).val)
    (hr : ∀ r < 256, ∃ a : ℝ, rowTotal X r = (a : EReal))
    (t : Vec Ideal S128x128 .bf16) (ht : ∀ y, t y = (if (y 0).val ≤ (y 1).val then (1 : EReal) else 0))
    (e : Vec Ideal S4096x32 .bf16) (he : ∀ y, e y = (if (y 0).val < (y 1).val * 128 then (1 : EReal) else 0))
    (p : Vec Ideal S32x4096 .f32) (hp : ∀ y, p y = (if (y 0).val = (y 1).val / 128 then (1 : EReal) else 0))
    (cr : FVec Ideal S1x1 .f32) (y : S256x4096.Idx) :
    blockOut (F := Ideal) x t e p cr y
      = cr (ix2 0 0) + ∑ r ∈ range (y 0).val, rowTotal X r + ∑ c ∈ range ((y 1).val + 1), X (y 0).val c := by
  have h0 : (y 0).val < 256 := (y 0).isLt
  have h1 : (y 1).val < 4096 := (y 1).isLt
  have hm : (y 1).val % 128 < 128 := Nat.mod_lt _ (by decide)
  show chunkOut ((y 1).val / 128 * 128) (slices_chunk _ h1) x t (chunkBase x e p) (rowBase x cr)
      (ix2 (⟨(y 0).val, h0⟩ : Fin 256) (⟨(y 1).val % 128, hm⟩ : Fin 128)) = _
  unfold chunkOut
  rw [addf_apply, addf_apply, chunk_inner_value x X hx t ht]
  rw [extractStridedSlice_apply _ _ (slices_chunk _ h1) _ (ix2 (⟨(y 0).val, h0⟩ : Fin 256) (⟨(y 1).val, h1⟩ : Fin 4096))
      (fun a => by
        match a with
        | ⟨0, _⟩ => show (y 0).val = 0 + (y 0).val; omega
        | ⟨1, _⟩ => show (y 1).val = (y 1).val / 128 * 128 + (y 1).val % 128; omega),
    chunk_base_value x X hx e he p hp,
    broadcastTo_apply _ broadcasts_S256x1_S256x128 _ (ix2 (⟨(y 0).val, h0⟩ : Fin 256) (0 : Fin 1))
      (fun a => by match a with | ⟨0, _⟩ => rfl | ⟨1, _⟩ => rfl)]
  unfold rowBase
  rw [addf_apply, rows_before_value x X hx hr, carry_rows]
  have hs : (y 1).val + 1 = (y 1).val / 128 * 128 + ((y 1).val % 128 + 1) := by omega
  rw [hs, sum_range_add (fun c => X (y 0).val c) ((y 1).val / 128 * 128) ((y 1).val % 128 + 1)]
  show (∑ k ∈ range ((y 1).val % 128 + 1), X (y 0).val ((y 1).val / 128 * 128 + k) : EReal)
      + ((∑ k ∈ range ((y 1).val / 128 * 128), X (y 0).val k) + ((∑ r ∈ range (y 0).val, rowTotal X r) + cr (ix2 0 0))) = _
  ac_rfl

/-- The carry a block leaves: the one it entered with, and all its rows. -/
theorem carry_value (x : Vec Ideal S256x4096 .f32) (X : ℕ → ℕ → EReal) (hx : ∀ y, x y = X (y 0).val (y 1).val)
    (cr : FVec Ideal S1x1 .f32) :
    carryOut (F := Ideal) x cr (ix2 0 0) = cr (ix2 0 0) + ∑ r ∈ range 256, rowTotal X r := by
  unfold carryOut k0_pay2
  rw [shapeCast_self, addf_apply, extractStridedSlice_apply _ _ slices_S256x1_o255_0_S1x1 _ (ix2 (255 : Fin 256) (0 : Fin 1))
    (fun a => by match a with | ⟨0, _⟩ => rfl | ⟨1, _⟩ => rfl), running_value x X hx]
  rfl

end Cert.KernelIdeal.Scan

end
-- ==== Proof.Flat.lean ====
/- The input read as one list, row after row, and the sums of its first entries. -/
module

public import proofs.«01_k».proof.Proof.Sums
public import Idealize.ShloMosaic.Lib.ValueIdx
public import Idealize.ShloMosaic.PureOps

@[expose] public section

noncomputable section

namespace Cert.Flat

open Cert.Sums
open Idealize.ShloMosaic
open Idealize.ShloMosaic.ValueIdx (ix1 ix2 eq_ix2)
open Finset

/-- The input's shape. -/
abbrev Mat : Shape := ⟨2, ![8192, 4096]⟩

/-- Entry `k` of the input in row-major order, zero past its end. -/
def flat (x : Mat.Idx → EReal) (k : ℕ) : EReal :=
  if h : k < 33554432 then x (ix2 (⟨k / 4096, by omega⟩ : Fin 8192) (⟨k % 4096, by omega⟩ : Fin 4096)) else 0

/-- The entry at a row and a column is the list's at `4096 · row + column`. -/
theorem flat_at (x : Mat.Idx → EReal) (y : Mat.Idx) : flat x (4096 * (y 0).val + (y 1).val) = x y := by
  have h0 : (y 0).val < 8192 := (y 0).isLt
  have h1 : (y 1).val < 4096 := (y 1).isLt
  unfold flat
  rw [dif_pos (by omega)]
  refine congrArg x (funext fun a => Fin.ext ?_)
  match a with
  | ⟨0, _⟩ => show (4096 * (y 0).val + (y 1).val) / 4096 = (y 0).val; omega
  | ⟨1, _⟩ => show (4096 * (y 0).val + (y 1).val) % 4096 = (y 1).val; omega

/-- Where every entry is real, so is every entry of the list. -/
theorem flat_real (x : Mat.Idx → EReal) (hx : ∀ y, ∃ a : ℝ, x y = (a : EReal)) (k : ℕ) : ∃ a : ℝ, flat x k = (a : EReal) := by
  unfold flat
  by_cases h : k < 33554432
  · rw [dif_pos h]; exact hx _
  · rw [dif_neg h]; exact ⟨0, rfl⟩

/-- The running sum at an entry: everything up to it in row-major order. -/
def runningSum (x : Mat.Idx → EReal) (y : Mat.Idx) : EReal := ∑ k ∈ range (4096 * (y 0).val + (y 1).val + 1), flat x k

/-- A running sum, cut at a block of 256 rows: the rows before the block, the block's rows before the entry's, and the
    entry's own row up to it. -/
theorem sum_cut (g : ℕ → EReal) (b r c : ℕ) :
    ∑ k ∈ range (4096 * (256 * b + r) + c + 1), g k
      = ∑ k ∈ range (4096 * (256 * b)), g k + ∑ i ∈ range r, ∑ k ∈ range 4096, g (4096 * (256 * b + i) + k)
        + ∑ k ∈ range (c + 1), g (4096 * (256 * b + r) + k) := by
  rw [Nat.add_assoc, sum_range_add, sum_rows, sum_range_add, ← sum_rows]

/-- The rows before the next block of 256: the rows before this one and its own. -/
theorem sum_block (g : ℕ → EReal) (b : ℕ) :
    ∑ k ∈ range (4096 * (256 * (b + 1))), g k
      = ∑ k ∈ range (4096 * (256 * b)), g k + ∑ i ∈ range 256, ∑ k ∈ range 4096, g (4096 * (256 * b + i) + k) := by
  rw [sum_rows, Nat.mul_succ, sum_range_add, ← sum_rows]

end Cert.Flat

end
-- ==== Proof.KernelIdealArray.lean ====
/- What the kernel's result array holds at the end, at exact numbers: at each entry the running sum up to it. -/
module

public import proofs.«01_k».proof.Proof.KernelIdealLaunch
public import proofs.«01_k».proof.Proof.KernelIdealTables
public import proofs.«01_k».proof.Proof.KernelIdealBlockValue
public import proofs.«01_k».proof.Proof.Flat

@[expose] public section

set_option maxRecDepth 16384

noncomputable section

namespace Cert.KernelIdeal.Scan

open Cert.KernelIdeal Cert.KernelIdeal.Gen Cert.Sums Cert.Flat
open Idealize.ShloMosaic Idealize.ShloMosaic.TcCoe
open Idealize.ShloMosaic.ValueIdx (ix1 ix2 eq_ix2)
open Idealize.ShloMosaic.Pipeline (Dat)
open Finset

variable (m : (ℓ : Loc nD τ sig) → Buf (Elt Ideal) ℓ)

/-- The input as the program finds it. -/
def input (c : Dev nD) : Mat.Idx → EReal := m ((c : Thread nD τ).loc main_arg0)

/-! ## The blocks a point reads -/

/-- The input's block and the result's at a point are the point's own, over all the columns. -/
theorem own_block (t : Fin cfg0.N) : (win0_0.index t (0 : Fin 2) = t.val ∧ win0_0.index t (1 : Fin 2) = 0)
    ∧ win0_4.index t (0 : Fin 2) = t.val ∧ win0_4.index t (1 : Fin 2) = 0 ∧ win0_4.flush t = true :=
  (by decide +kernel : ∀ t : Fin grid0.N, (win0_0.index t (0 : Fin 2) = t.val ∧ win0_0.index t (1 : Fin 2) = 0)
    ∧ win0_4.index t (0 : Fin 2) = t.val ∧ win0_4.index t (1 : Fin 2) = 0 ∧ win0_4.flush t = true) t

/-- Each table's block is the whole table, at every point. -/
theorem first_block (t : Fin cfg0.N) : (win0_1.index t (0 : Fin 2) = 0 ∧ win0_1.index t (1 : Fin 2) = 0)
    ∧ (win0_2.index t (0 : Fin 2) = 0 ∧ win0_2.index t (1 : Fin 2) = 0) ∧ win0_3.index t (0 : Fin 2) = 0 ∧ win0_3.index t (1 : Fin 2) = 0 :=
  (by decide +kernel : ∀ t : Fin grid0.N, (win0_1.index t (0 : Fin 2) = 0 ∧ win0_1.index t (1 : Fin 2) = 0)
    ∧ (win0_2.index t (0 : Fin 2) = 0 ∧ win0_2.index t (1 : Fin 2) = 0)
    ∧ win0_3.index t (0 : Fin 2) = 0 ∧ win0_3.index t (1 : Fin 2) = 0) t

/-- The input's block at point `t`: rows `256 t` on. -/
theorem input_block (c : Dev nD) (t : Fin cfg0.N) (y : S256x4096.Idx) :
    iblk m c 0 t y = flat (input m c) (4096 * (256 * t.val + (y 0).val) + (y 1).val) := by
  obtain ⟨⟨e0, e1⟩, -⟩ := own_block t
  have h0 : (((cfg0.win 0).blk t).view.emb y 0).val = win0_0.index t (0 : Fin 2) * 256 + 1 * (y 0).val := rfl
  have h1 : (((cfg0.win 0).blk t).view.emb y 1).val = win0_0.index t (1 : Fin 2) * 4096 + 1 * (y 1).val := rfl
  show V m c main_arg0 (((cfg0.win 0).blk t).view.emb y) = _
  rw [V_main_arg0]
  refine (flat_at (input m c) (((cfg0.win 0).blk t).view.emb y)).symm.trans (congrArg _ ?_)
  rw [h0, h1, e0, e1]
  omega

/-- The first table's block at any point: one where the row is at most the column. -/
theorem upTo_block (c : Dev nD) (t : Fin cfg0.N) (y : S128x128.Idx) :
    iblk m c 1 t y = (if (y 0).val ≤ (y 1).val then (1 : EReal) else 0) := by
  obtain ⟨⟨e0, e1⟩, -⟩ := first_block t
  have h0 : (((cfg0.win 1).blk t).view.emb y 0).val = win0_1.index t (0 : Fin 2) * 128 + 1 * (y 0).val := rfl
  have h1 : (((cfg0.win 1).blk t).view.emb y 1).val = win0_1.index t (1 : Fin 2) * 128 + 1 * (y 1).val := rfl
  refine (upTo_table m c (((cfg0.win 1).blk t).view.emb y)).trans ?_
  rw [h0, h1, e0, e1]
  simp only [Nat.zero_mul, Nat.one_mul, Nat.zero_add]

/-- The second table's block at any point: one where the row is before the column's chunk. -/
theorem before_block (c : Dev nD) (t : Fin cfg0.N) (y : S4096x32.Idx) :
    iblk m c 2 t y = (if (y 0).val < (y 1).val * 128 then (1 : EReal) else 0) := by
  obtain ⟨-, ⟨e0, e1⟩, -⟩ := first_block t
  have h0 : (((cfg0.win 2).blk t).view.emb y 0).val = win0_2.index t (0 : Fin 2) * 4096 + 1 * (y 0).val := rfl
  have h1 : (((cfg0.win 2).blk t).view.emb y 1).val = win0_2.index t (1 : Fin 2) * 32 + 1 * (y 1).val := rfl
  refine (before_table m c (((cfg0.win 2).blk t).view.emb y)).trans ?_
  rw [h0, h1, e0, e1]
  simp only [Nat.zero_mul, Nat.one_mul, Nat.zero_add]

/-- The third table's block at any point: one where the column is in the row's chunk. -/
theorem holds_block (c : Dev nD) (t : Fin cfg0.N) (y : S32x4096.Idx) :
    iblk m c 3 t y = (if (y 0).val = (y 1).val / 128 then (1 : EReal) else 0) := by
  obtain ⟨-, -, e0, e1⟩ := first_block t
  have h0 : (((cfg0.win 3).blk t).view.emb y 0).val = win0_3.index t (0 : Fin 2) * 32 + 1 * (y 0).val := rfl
  have h1 : (((cfg0.win 3).blk t).view.emb y 1).val = win0_3.index t (1 : Fin 2) * 4096 + 1 * (y 1).val := rfl
  refine (holds_table m c (((cfg0.win 3).blk t).view.emb y)).trans ?_
  rw [h0, h1, e0, e1]
  simp only [Nat.zero_mul, Nat.one_mul, Nat.zero_add]

/-! ## The carry and the blocks written -/

/-- The entries of point `n`'s block, by row and column. -/
def blockEntry (c : Dev nD) (n r k : ℕ) : EReal := flat (input m c) (4096 * (256 * n + r) + k)

/-- The carry before point `n` is the sum of all the rows before its block. -/
theorem carryAt_value (c : Dev nD) (n : ℕ) (hn : n ≤ cfg0.N) :
    carryAt m c n (ValueIdx.ix2 0 0) = ∑ k ∈ range (4096 * (256 * n)), flat (input m c) k := by
  induction n with
  | zero => exact Ideal.ofBits_zero_f32
  | succ n ih =>
    rw [carryAt_succ m c ⟨n, hn⟩, carry_value _ (blockEntry m c n) (input_block m c ⟨n, hn⟩)]
    show carryAt m c n (ValueIdx.ix2 0 0) + _ = _
    rw [ih (Nat.le_of_succ_le hn), sum_block]
    rfl

/-- What a point leaves in the result's block, where every input entry is real. -/
theorem written_value (c : Dev nD) (hx : ∀ y, ∃ a : ℝ, input m c y = (a : EReal)) (t : Fin cfg0.N) (y : S256x4096.Idx) :
    (dats m 0 c).after 4 t y = ∑ k ∈ range (4096 * (256 * t.val + (y 0).val) + (y 1).val + 1), flat (input m c) k := by
  rw [after_4, block_value _ (blockEntry m c t.val) (input_block m c t)
      (fun r _ => sum_real _ _ fun k _ => flat_real _ hx _) _ (upTo_block m c t) _ (before_block m c t) _ (holds_block m c t),
    carryAt_value m c t.val (Nat.le_of_lt t.isLt), sum_cut]
  rfl

/-- What a point writes back is its block of the running sums. -/
theorem written_block (c : Dev nD) (hx : ∀ y, ∃ a : ℝ, input m c y = (a : EReal)) (t : Fin cfg0.N) :
    (dats m 0 c).flushed 4 t = ((cfg0.win 4).blk t).view.read (Elt Ideal) (runningSum (input m c)) := by
  obtain ⟨-, e0, e1, -⟩ := own_block t
  funext y
  have h0 : (((cfg0.win 4).blk t).view.emb y 0).val = win0_4.index t (0 : Fin 2) * 256 + 1 * (y 0).val := rfl
  have h1 : (((cfg0.win 4).blk t).view.emb y 1).val = win0_4.index t (1 : Fin 2) * 4096 + 1 * (y 1).val := rfl
  refine (written_value m c hx t y).trans ?_
  show _ = runningSum (input m c) (((cfg0.win 4).blk t).view.emb y)
  unfold runningSum
  rw [h0, h1, e0, e1]
  refine congrArg (fun n => ∑ k ∈ range n, flat (input m c) k) ?_
  omega

/-- Every entry of the result is in some point's block. -/
theorem all_written (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 32 := N_0
  have ht : (i 0).val / 256 < cfg0.N := by omega
  obtain ⟨-, e0, e1, hf⟩ := own_block ⟨(i 0).val / 256, ht⟩
  refine ⟨⟨(i 0).val / 256, ht⟩, hf, ?_⟩
  show i ∈ ((View.whole main_v0).slice (win0_4.rect ⟨(i 0).val / 256, ht⟩)).set
  rw [View.set_slice_whole, Rect.mem_set_unit]
  intro a
  match a with
  | ⟨0, _⟩ =>
    show win0_4.index ⟨(i 0).val / 256, ht⟩ (0 : Fin 2) * 256 ≤ (i 0).val ∧ (i 0).val < win0_4.index ⟨(i 0).val / 256, ht⟩ (0 : Fin 2) * 256 + 256
    rw [e0]; constructor <;> dsimp only <;> omega
  | ⟨1, _⟩ =>
    show win0_4.index ⟨(i 0).val / 256, ht⟩ (1 : Fin 2) * 4096 ≤ (i 1).val ∧ (i 1).val < win0_4.index ⟨(i 0).val / 256, ht⟩ (1 : Fin 2) * 4096 + 4096
    rw [e1]; constructor <;> omega

/-- The result array at the end: the running sums. -/
theorem array_value (c : Dev nD) (hx : ∀ y, ∃ a : ℝ, input m c y = (a : EReal)) :
    (dats m 0 c).arrAt 4 cfg0.N = runningSum (input m c) :=
  (dats m 0 c).arrAt_eq_of_cover 4 _ (fun t _ => written_block m c hx t) all_written

end Cert.KernelIdeal.Scan

end
-- ==== Proof.WindowSum.lean ====
/- The running sum of a vector, as a window of the whole length padded low by one less: entry `j` is the sum of the entries up
   to `j`, at exact numbers. -/
module

public import proofs.«01_k».proof.Proof.Sums
public import Idealize.ShloMosaic.Lib.ValueIdx
public import Idealize.ShloMosaic.PureOps

@[expose] public section

noncomputable section

namespace Cert.WindowSum

open Idealize.ShloMosaic
open Idealize.ShloMosaic.ValueIdx (ix1)
open Finset

/-- Adding a list's terms one by one to a start gives the start and the list's sum. -/
theorem fold_sum {ι : Type} (f : ι → EReal) (l : List ι) (v : EReal) : l.foldl (fun r a => r + f a) v = v + (l.map f).sum := by
  induction l generalizing v with
  | nil => simp
  | cons a l ih => rw [List.foldl_cons, ih, List.map_cons, List.sum_cons, add_assoc]

/-- The terms of a window that ends at place `j` of a list, zero where the window hangs out, sum to the first `j + 1` of the list. -/
theorem window_terms (g : ℕ → EReal) (p j : ℕ) (hj : j ≤ p) :
    ∑ n ∈ range (p + 1), (if p ≤ j + n then g (j + n - p) else 0) = ∑ k ∈ range (j + 1), g k := by
  rw [show p + 1 = (p - j) + (j + 1) by omega, sum_range_add]
  rw [sum_eq_zero fun n hn => if_neg (by have := mem_range.1 hn; omega), zero_add]
  refine sum_congr rfl fun k _ => ?_
  rw [if_pos (by omega)]
  exact congrArg g (by omega)

/-- Place `n` of a vector in row-major order is index `n`. -/
theorem vector_place (N : ℕ) (n : Fin (⟨1, ![N]⟩ : Shape).numel) : ((⟨1, ![N]⟩ : Shape).rowMajor.symm n 0).val = n.val := by
  have h := Shape.rowMajor_val_one ((⟨1, ![N]⟩ : Shape).rowMajor.symm n)
  rw [Equiv.apply_symm_apply] at h
  exact h.symm

/-- A vector of length `N` has `N` entries. -/
theorem vector_numel (N : ℕ) : (⟨1, ![N]⟩ : Shape).numel = N := by
  show ∏ a : Fin 1, (![N] : Fin 1 → ℕ) a = N
  simp

/-- The window sum of a vector whose entry `i` is `g i`, from zero. -/
theorem window_sum (N p : ℕ) (hN : p + 1 = N) (x : (⟨1, ![N]⟩ : Shape).Idx → EReal) (g : ℕ → EReal) (hx : ∀ i, x i = g (i 0).val)
    (h : (⟨1, ![N]⟩ : Shape).ReduceWindows (![N] : Fin 1 → ℕ) ![1] ![p] ![0] ⟨1, ![N]⟩) (j : (⟨1, ![N]⟩ : Shape).Idx) :
    Ideal.hostReduceWindowAdd ![N] ![1] ![p] ![0] h x 0 j = ∑ k ∈ range ((j 0).val + 1), g k := by
  have hj : (j 0).val < N := (j 0).isLt
  unfold Ideal.hostReduceWindowAdd Host.reduceWindow
  refine (fold_sum _ _ _).trans ?_
  rw [← Fin.sum_univ_def, zero_add, ← window_terms g p (j 0).val (by omega)]
  refine Eq.trans ?_ ((Fin.sum_univ_eq_sum_range (fun n => if p ≤ (j 0).val + n then g ((j 0).val + n - p) else 0)
    (⟨1, ![N]⟩ : Shape).numel).trans (by rw [vector_numel, hN]))
  refine sum_congr rfl fun n _ => ?_
  have hn : n.val < N := lt_of_lt_of_eq n.isLt (vector_numel N)
  have hp : (j 0).val * 1 + ((⟨1, ![N]⟩ : Shape).rowMajor.symm n 0).val = (j 0).val + n.val := by rw [vector_place, Nat.mul_one]
  by_cases hc : p ≤ (j 0).val + n.val
  · rw [if_pos hc, dif_pos fun a => by
      match a with
      | ⟨0, _⟩ =>
        show p ≤ (j 0).val * 1 + ((⟨1, ![N]⟩ : Shape).rowMajor.symm n 0).val ∧ (j 0).val * 1 + ((⟨1, ![N]⟩ : Shape).rowMajor.symm n 0).val - p < N
        rw [hp]; omega, hx]
    exact congrArg (fun q => g (q - p)) hp
  · rw [if_neg hc, dif_neg fun hin => hc (by
      have h0 : p ≤ (j 0).val * 1 + ((⟨1, ![N]⟩ : Shape).rowMajor.symm n 0).val := (hin 0).1
      omega)]

/-- The same of the host's operation, its start any array of one zero. -/
theorem host_window_sum {u : Shape} (N p : ℕ) (hN : p + 1 = N) (x : FVec Ideal (⟨1, ![N]⟩ : Shape) .f32) (g : ℕ → EReal)
    (hx : ∀ i, x i = g (i 0).val) (v : FVec Ideal u .f32) (hv : ∀ i, v i = (0 : EReal))
    (h : (⟨1, ![N]⟩ : Shape).ReduceWindows (![N] : Fin 1 → ℕ) ![1] ![p] ![0] ⟨1, ![N]⟩) (hu : 0 < u.numel) (j : (⟨1, ![N]⟩ : Shape).Idx) :
    Host.reduceWindowAdd ![N] ![1] ![p] ![0] x v h hu j = ∑ k ∈ range ((j 0).val + 1), g k := by
  show Ideal.hostReduceWindowAdd ![N] ![1] ![p] ![0] h x (v (Shape.Idx.first hu)) j = _
  rw [hv]
  exact window_sum N p hN x g hx h j

end Cert.WindowSum

end
-- ==== Proof.ReferenceIdealValue.lean ====
/- What the reference computes, at exact numbers: the running sums of the input read row after row. -/
module

public import proofs.«01_k».proof.Proof.Gen.ReferenceIdeal.Run
public import proofs.«01_k».proof.Proof.Flat
public import proofs.«01_k».proof.Proof.WindowSum
public import Idealize.ShloMosaic.Lib.Pipeline.Value
public import Idealize.ShloMosaic.Lib.Quiescent
public import Idealize.ShloMosaic.PureOps.Ideal.Laws

@[expose] public section

noncomputable section

namespace Cert.ReferenceIdeal.Cumsum

open Cert.ReferenceIdeal Cert.ReferenceIdeal.Gen Cert.Flat Cert.WindowSum
open Idealize.ShloMosaic Idealize.ShloMosaic.TcCoe Idealize.SL.Sem
open Idealize.ShloMosaic.ValueIdx (ix1 ix2)
open Finset

/-- The input flattened: its entry `i` is the list's. -/
theorem flattened (x : Mat.Idx → EReal) (i : S33554432.Idx) :
    shapeCast S33554432 x shapeCasts_S8192x4096_S33554432 i = flat x (i 0).val := by
  have hi : (i 0).val < 33554432 := (i 0).isLt
  unfold flat
  rw [dif_pos hi]
  refine shapeCast_apply x _ i _ ?_
  rw [Shape.rowMajor_val_one, Shape.rowMajor_val_two]
  show (i 0).val / 4096 * 4096 + (i 0).val % 4096 = (i 0).val
  omega

/-- The reference's running sums, entry by entry. -/
theorem value (x : FVec Ideal S8192x4096 .f32) :
    shapeCast S8192x4096 (Host.reduceWindowAdd ![33554432] ![1] ![33554431] ![0] (shapeCast S33554432 x shapeCasts_S8192x4096_S33554432)
        (broadcastInDim S_ ![] bcast_S_S_ (constant S_ .f32 0x00000000#32)) reduceWindows_S33554432_S33554432_w33554432s1p33554431_0 h_S_)
      shapeCasts_S33554432_S8192x4096 = runningSum x := by
  funext y
  have h0 : (y 0).val < 8192 := (y 0).isLt
  have h1 : (y 1).val < 4096 := (y 1).isLt
  have hj : 4096 * (y 0).val + (y 1).val < 33554432 := by omega
  rw [shapeCast_apply _ _ y (ix1 (⟨4096 * (y 0).val + (y 1).val, hj⟩ : Fin 33554432)) (by
    rw [Shape.rowMajor_val_one, Shape.rowMajor_val_two]
    show 4096 * (y 0).val + (y 1).val = (y 0).val * 4096 + (y 1).val
    omega)]
  exact host_window_sum 33554432 33554431 rfl _ (flat x) (flattened x) _ (fun _ => Ideal.ofBits_zero_f32) _ _ _

/-- Every execution of the reference ends with the result at the running sums of the argument, and the argument as it was. -/
theorem result_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = runningSum (m ((c.tc : Thread nD τ).loc main_arg0))
      ∧ r.2.mem ((c.tc : Thread nD τ).loc main_arg0) = m ((c.tc : Thread nD τ).loc main_arg0) :=
  (θ_run defs _ _).mono (fun r h c => ⟨(h c).1.trans (value _), (h c).2⟩) (Value.run m ρ)

/-- Every execution of the reference ends with the argument as it was and every semaphore counter at zero. -/
theorem frame_run (m : (ℓ : Loc nD τ sig) → Buf (Elt Ideal) ℓ) (ρ : Dev nD → PrngReg) :
    θ_run defs (onTc (τ := τ) (main (F := Ideal))) ⟨m, fun _ => 0, ρ⟩
      (fun r => (∀ c : Dev nD, r.2.mem ((c.tc : Thread nD τ).loc main_arg0) = m ((c.tc : Thread nD τ).loc main_arg0))
        ∧ r.2.sem = fun _ => 0) :=
  (θ_run defs _ _).mono (fun r h => ⟨fun c => (h c).2, sem_eq_zero_of_no_sems (by decide) r.2⟩) (Value.run m ρ)

end Cert.ReferenceIdeal.Cumsum

end
-- ==== Proof.Finite.lean ====
/- The precondition read back: where it holds, every entry of the input is a real number. -/
module

public import proofs.«01_k».proof.Proof.Gen.Pre_finite
public import Idealize.ShloMosaic.Lib.ReduceAll
public import Idealize.ShloMosaic.Lib.Pipeline.Value
public import Idealize.ShloMosaic.Lib.IdealHost

@[expose] public section

noncomputable section

namespace Cert.Pre_finite

open Cert.Pre_finite.Gen
open Idealize.ShloMosaic

/-- The pattern of +∞ is +∞. -/
theorem inf_value : Ideal.ofBits .f32 0x7F800000#32 = ⊤ := by simp [Ideal.ofBits, Ideal.ieee]

/-- A number whose absolute value is below +∞ is real. -/
theorem real_of_abs_lt (a : EReal) (h : max a (-a) < ⊤) : ∃ r : ℝ, a = (r : EReal) := by
  obtain ⟨h1, h2⟩ := max_lt_iff.1 h
  induction a with
  | bot => exact absurd h2 (by simp)
  | top => exact absurd h1 (by simp)
  | coe r => exact ⟨r, rfl⟩

/-- Where the precondition holds, every entry is real. -/
theorem all_real (x : FVec Ideal S8192x4096 .f32) (h : fn (F := Ideal) x = fun _ => 1#1) (i : S8192x4096.Idx) :
    ∃ r : ℝ, x i = (r : EReal) := by
  have : Subsingleton S_.Idx := ⟨fun a b => funext fun k => k.elim0⟩
  have e := Host.reduce_andi_all _ _ _ _ (fun k => k.elim0) (congrFun h _) i
  change BitVec.ofBool (decide (max (x i) (-(x i)) < Ideal.ofBits .f32 0x7F800000#32)) = 1#1 at e
  rw [inf_value] at e
  refine real_of_abs_lt (x i) (Decidable.by_contra fun hn => ?_)
  rw [decide_eq_false hn] at e
  exact absurd e (by decide)

end Cert.Pre_finite

end
-- ==== Proof.lean ====
/- The proof of the claims: the three programs' frames, the idealization, and the equation between what the kernel and the
   reference leave. -/
module

public import proofs.«01_k».proof.Defs
public import proofs.«01_k».proof.Proof.KernelLaunch
public import proofs.«01_k».proof.Proof.KernelIdealArray
public import proofs.«01_k».proof.Proof.ReferenceIdealValue
public import proofs.«01_k».proof.Proof.Finite
public import Idealize.ShloMosaic.Adequacy
public import Idealize.ShloMosaic.Init

@[expose] public section

noncomputable section

namespace Cert.Proof

open Idealize.ShloMosaic Idealize.SL.Sem Cert.Flat

/-- Where the precondition holds, every entry of the kernel's input is real. -/
theorem input_real (m : (ℓ : Loc Cert.KernelIdeal.nD Cert.KernelIdeal.τ Cert.KernelIdeal.sig) → Buf (Elt Ideal) ℓ)
    (h : Cert.Pre_KernelIdeal_finite m) (c : Dev Cert.KernelIdeal.nD) (y : Mat.Idx) :
    ∃ a : ℝ, Cert.KernelIdeal.Scan.input m c y = (a : EReal) :=
  Cert.Pre_finite.all_real _ (h c) y

/-- Kernel and reference, started on one input where the precondition holds, both end with the running sums of that input. -/
theorem equation : Cert.algebraic_KernelIdeal_ReferenceIdeal_pre_finite := fun m g m' g' hm hargs =>
  ⟨fun c => runningSum (Cert.KernelIdeal.Scan.input m c),
    (θ_run _ _ _).mono (fun r h c => ⟨(h c).1.trans (Cert.KernelIdeal.Scan.array_value m c (input_real m hm c)), (h c).2⟩)
      (Cert.KernelIdeal.Scan.result_run m g),
    (θ_run _ _ _).mono (fun r h c => ⟨(h c).1.trans (congrArg runningSum (hargs c)), (h c).2⟩)
      (Cert.ReferenceIdeal.Cumsum.result_run m' g')⟩

/-- All the claims. -/
theorem claim : Cert.Claim :=
  ⟨Cert.Kernel.Gen.facts, Cert.KernelIdeal.Gen.facts, Cert.ReferenceIdeal.Gen.facts, Cert.Pre_finite.Gen.facts,
    fun m g _ => Cert.Kernel.Scan.frame_run m g,
    fun m g _ => Cert.KernelIdeal.Scan.frame_run m g,
    fun m g _ => Cert.KernelIdeal.Scan.frame_run m g,
    fun m g _ => Cert.ReferenceIdeal.Cumsum.frame_run m g,
    fun m g _ => Cert.ReferenceIdeal.Cumsum.frame_run m g,
    trivial,
    equation⟩

end Cert.Proof

end
